-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_untied [hPre_finite_and_untied : Cert.Pre_finite_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_untied [hPre_finite_and_untied : Cert.Pre_finite_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_untied [hKernelIdeal : Cert.KernelIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_and_untied [hReferenceIdeal : Cert.ReferenceIdeal.Facts] [hPre_finite_and_untied : Cert.Pre_finite_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_and_untied [hKernelIdeal : Cert.KernelIdeal.Facts] [hReferenceIdeal : Cert.ReferenceIdeal.Facts] [hPre_finite_and_untied : Cert.Pre_finite_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_and_untied : Cert.Pre_finite_and_untied.Facts),
    quiescent_Kernel (hKernel := hKernel)
    ∧ quiescent_KernelIdeal (hKernelIdeal := hKernelIdeal)
    ∧ quiescent_KernelIdeal_pre_finite_and_untied (hKernelIdeal := hKernelIdeal) (hPre_finite_and_untied := hPre_finite_and_untied)
    ∧ quiescent_ReferenceIdeal (hReferenceIdeal := hReferenceIdeal)
    ∧ quiescent_ReferenceIdeal_pre_finite_and_untied (hReferenceIdeal := hReferenceIdeal) (hPre_finite_and_untied := hPre_finite_and_untied)
    ∧ preserves_Kernel_KernelIdeal
    ∧ algebraic_KernelIdeal_ReferenceIdeal_pre_finite_and_untied (hKernelIdeal := hKernelIdeal) (hReferenceIdeal := hReferenceIdeal) (hPre_finite_and_untied := hPre_finite_and_untied)
-- ==== Pre_finite_and_untied.lean ====
abbrev S16384x32 : Shape := ⟨2, ![16384, 32]⟩
abbrev S_ : Shape := ⟨0, ![]⟩
abbrev S16383x32 : Shape := ⟨2, ![16383, 32]⟩

class Facts : Prop where
  bcast_S_S16384x32 : S_.BroadcastsInDim S16384x32 (![] : Fin 0 → Fin S16384x32.rank)
  slices_S16384x32_S16383x32_1_0 : S16384x32.Slices ![1, 0] S16383x32
  slices_S16384x32_S16383x32_0_0 : S16384x32.Slices ![0, 0] S16383x32

variable [Facts]

variable {F : FTy → Type} [FloatOps F]
def comparator_f32_d0 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S16384x32 .f32) : FVec F S16384x32 .f32 :=
  let v0 : FVec F S16384x32 .f32 := (fun x => Host.sort S16384x32 0 comparator_f32_d0 x) arg0
  v0

def fn {F : FTy → Type} [FloatOps F] (main_arg0 : FVec F S16384x32 .f32) (main_arg1 : FVec F S16384x32 .f32) : IVec S16384x32 1 × IVec S16383x32 1 :=
  let main_v0 : FVec F S16384x32 .f32 := fn_sort (F := F) main_arg1
  let main_v1 : FVec F S16384x32 .f32 := Host.absf main_arg0
  let main_cst : FVec F S_ .f32 := constant S_ .f32 0x7F800000#32
  let main_v2 : FVec F S16384x32 .f32 := broadcastInDim S16384x32 ![] bcast_S_S16384x32 main_cst
  let main_v3 : IVec S16384x32 1 := cmpf .olt main_v1 main_v2
  let main_v4 : FVec F S16383x32 .f32 := (extractStridedSlice S16383x32 ![1, 0] · slices_S16384x32_S16383x32_1_0) main_v0
  let main_v5 : FVec F S16383x32 .f32 := (extractStridedSlice S16383x32 ![0, 0] · slices_S16384x32_S16383x32_0_0) main_v0
  let main_v6 : IVec S16383x32 1 := cmpf .ogt main_v4 main_v5
  (main_v3, main_v6)
-- ==== Kernel.lean ====
abbrev S16384x32 : Shape := ⟨2, ![16384, 32]⟩
abbrev S1x1 : Shape := ⟨2, ![1, 1]⟩
abbrev S_ : Shape := ⟨0, ![]⟩
abbrev S32 : Shape := ⟨1, ![32]⟩
abbrev S1x32 : Shape := ⟨2, ![1, 32]⟩
abbrev S128x128x32 : Shape := ⟨3, ![128, 128, 32]⟩
abbrev S128x128 : Shape := ⟨2, ![128, 128]⟩
abbrev S128x32x128 : Shape := ⟨3, ![128, 32, 128]⟩
abbrev S128x32 : Shape := ⟨2, ![128, 32]⟩
abbrev S128x32x1 : Shape := ⟨3, ![128, 32, 1]⟩
abbrev S1x128x32x128 : Shape := ⟨4, ![1, 128, 32, 128]⟩
abbrev S1 : Shape := ⟨1, ![1]⟩
abbrev S1x1x1x1 : Shape := ⟨4, ![1, 1, 1, 1]⟩
abbrev S1x1x32 : Shape := ⟨3, ![1, 1, 32]⟩
abbrev S1x1x1 : Shape := ⟨3, ![1, 1, 1]⟩

abbrev nBuf : Space → Nat
  | .hbm => 6
  | .vmem => 1
  | .smem => 1
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x32, .f32⟩
  | .hbm, ⟨3, _⟩ => ⟨S16384x32, .f32⟩
  | .hbm, ⟨4, _⟩ => ⟨S1x1, .f32⟩
  | .hbm, ⟨5, _⟩ => ⟨S_, .f32⟩
  | .local _ .vmem, ⟨0, _⟩ => ⟨S16384x32, .f32⟩
  | .local _ .smem, ⟨0, _⟩ => ⟨S1x1, .f32⟩
  | _, _ => ⟨S16384x32, .f32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16384x32 : Shape := ⟨2, ![16384, 32]⟩
abbrev S_ : Shape := ⟨0, ![]⟩
abbrev S16384x32x1 : Shape := ⟨3, ![16384, 32, 1]⟩
abbrev S1 : Shape := ⟨1, ![1]⟩
abbrev S1x1x1 : Shape := ⟨3, ![1, 1, 1]⟩
abbrev S32 : Shape := ⟨1, ![32]⟩
abbrev S1x32 : Shape := ⟨2, ![1, 32]⟩

abbrev nBuf : Space → Nat
  | .hbm => 48
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S16384x32, .f32⟩
  | .hbm, ⟨3, _⟩ => ⟨S16384x32, .i32⟩
  | .hbm, ⟨4, _⟩ => ⟨S16384x32, .f32⟩
  | .hbm, ⟨5, _⟩ => ⟨S16384x32, .i32⟩
  | .hbm, ⟨6, _⟩ => ⟨S_, .i32⟩
  | .hbm, ⟨7, _⟩ => ⟨S16384x32, .i32⟩
  | .hbm, ⟨8, _⟩ => ⟨S16384x32, .i1⟩
  | .hbm, ⟨9, _⟩ => ⟨S_, .i32⟩
  | .hbm, ⟨10, _⟩ => ⟨S16384x32, .i32⟩
  | .hbm, ⟨11, _⟩ => ⟨S16384x32, .i32⟩
  | .hbm, ⟨12, _⟩ => ⟨S16384x32, .i32⟩
  | .hbm, ⟨13, _⟩ => ⟨S16384x32x1, .i32⟩
  | .hbm, ⟨14, _⟩ => ⟨S1, .i32⟩
  | .hbm, ⟨15, _⟩ => ⟨S_, .i32⟩
  | .hbm, ⟨16, _⟩ => ⟨S16384x32x1, .i32⟩
  | .hbm, ⟨17, _⟩ => ⟨S16384x32x1, .i1⟩
  | .hbm, ⟨18, _⟩ => ⟨S1x1x1, .i32⟩
  | .hbm, ⟨19, _⟩ => ⟨S16384x32x1, .i32⟩
  | .hbm, ⟨20, _⟩ => ⟨S16384x32x1, .i1⟩
  | .hbm, ⟨21, _⟩ => ⟨S16384x32x1, .i1⟩
  | .hbm, ⟨22, _⟩ => ⟨S_, .i1⟩
  | .hbm, ⟨23, _⟩ => ⟨S16384x32, .i1⟩
  | .hbm, ⟨24, _⟩ => ⟨S16384x32, .f32⟩
  | .hbm, ⟨25, _⟩ => ⟨S_, .f32⟩
  | .hbm, ⟨26, _⟩ => ⟨S16384x32, .f32⟩
  | .hbm, ⟨27, _⟩ => ⟨S16384x32, .f32⟩
  | .hbm, ⟨28, _⟩ => ⟨S_, .f32⟩
  | .hbm, ⟨29, _⟩ => ⟨S32, .f32⟩
  | .hbm, ⟨30, _⟩ => ⟨S1x32, .f32⟩
  | .hbm, ⟨31, _⟩ => ⟨S16384x32, .f32⟩
  | .hbm, ⟨32, _⟩ => ⟨S16384x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S_, .f32⟩
  | .hbm, ⟨37, _⟩ => ⟨S16384x32, .f32⟩
  | .hbm, ⟨38, _⟩ => ⟨S16384x32, .f32⟩
  | .hbm, ⟨39, _⟩ => ⟨S16384x32, .f32⟩
  | .hbm, ⟨40, _⟩ => ⟨S16384x32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call3_call0_cst : Ref sig .tc := ⟨.hbm, 35, rfl⟩
abbrev main_call3_call0_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst_0 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩

abbrev nD : Nat := 1
abbrev τ : Topo := Topo.v7x

variable {F : FTy → Type} [FloatOps F]
-- ==== Proof.KernelRun.lean ====
/- Hand-written, untrusted: THE KERNEL'S RUN WITH ITS RESULT NAMED. The generated run (Gen/KernelIdeal/Frame.lean) ends with
   the result read through the lines after the region, which here are one reshape of the (1, 1) array to a scalar. This module
   reads it: the array holds the one value the body stores (`Gen.k0_pay1`) of the sorted predictions, and the sorted
   predictions are the second result of the host's two-operand sort of the arguments. -/
module

public import proofs.«01_k».proof.Proof.Gen.KernelIdeal.Frame
public import Idealize.ShloMosaic.Lib.Pipeline.Value
public import Idealize.ShloMosaic.Lib.Quiescent

@[expose] public section

set_option maxRecDepth 16384

noncomputable section

namespace Cert.KernelIdeal.Hand

open Cert.KernelIdeal Cert.KernelIdeal.Gen Idealize.ShloMosaic Idealize.ShloMosaic.TcCoe Idealize.SL.Sem Idealize.ShloMosaic.Tactic
open Idealize.ShloMosaic.Pipeline (Dat)

variable {F : FTy → Type} [FloatOps F]
variable (m : (ℓ : Loc nD τ sig) → Buf (Elt F) ℓ) (ρ : Dev nD → PrngReg)

/-- The predictions in the order of their column's labels, smallest label first: the second operand of the host's sort. -/
def sorted (labels predictions : FVec F S16384x32 .f32) : FVec F S16384x32 .f32 :=
  (Host.sort2 S16384x32 0 comparator_f32_f32_d0 labels predictions).2

/-- What the region finds in its input array: the sorted predictions. -/
theorem entry (c : Dev nD) : V m c main_call0_v0_1
    = sorted (m ((c : Thread nD τ).loc main_arg1)) (m ((c : Thread nD τ).loc main_arg0)) := by
  show StableHlo.after (List.flatten [hostOps0]) (fun b => m (c, b)) (Proc.devRef .tc main_call0_v0_1) = _
  simp only [hostOps0, List.flatten_cons, List.flatten_nil, List.append_nil, StableHlo.TRef.binary, StableHlo.TRef.toBuf, StableHlo.TRef.ofBuf, cast_eq]
  after_results_simp <;> rfl

theorem hz : (![0, 0] : Fin 2 → Nat) = fun _ => 0 := funext fun a => by fin_cases a <;> rfl

/-- What the body leaves in the output's staging buffer: the value it stores, of the input block. -/
theorem out (c : Dev nD) (t : Fin cfg0.N) : outsAt0 m c t = fun _ => k0_pay1 (iblk m c 0 t) := by
  unfold outsAt0 out0_A_1
  rw [View.read_writes_eq_canon _ _ _ (cover0_A_1 c _ _ _ _ _)]
  unfold kernelRun0_A
  dsimp only
  sl_unfold_words
  simp only [View.readAt_eq_ld, (hs0_0 t).read_unread]
  rw [View.canon_unit_zero hz, View.ld_unit_zero hz]
  rfl

/-- The input's one block is the whole array, so the body reads the sorted predictions. -/
theorem block (c : Dev nD) (t : Fin cfg0.N) : iblk m c 0 t
    = sorted (m ((c : Thread nD τ).loc main_arg1)) (m ((c : Thread nD τ).loc main_arg0)) := by
  rw [← entry]
  unfold iblk
  funext i
  rw [View.read_apply]
  refine congrArg (V m c main_call0_v0_1) ?_
  funext a
  exact Fin.ext (Pipeline.Window.rect_emb_val_of_index_zero win0_0 t a rfl i)

/-- The value the kernel stores, of device `c`'s arguments. -/
def value (c : Dev nD) : F .f32 :=
  k0_pay1 (sorted (m ((c : Thread nD τ).loc main_arg1)) (m ((c : Thread nD τ).loc main_arg0)))

/-- The region's output array after the run: that value. -/
theorem final (c : Dev nD) : (dats m 0 c).arrAt 1 cfg0.N = fun _ => value m c := by
  refine (dats m 0 c).arrAt_eq_of_cover 1 (fun _ => value m c) (fun t _ => ?_) fun i => ⟨⟨0, by decide⟩, ?_, ?_⟩
  · show (cfg0.win 1).cut (grid0.coords t) ((dats m 0 c).after 1 t) = _
    rw [after0_1, out, block]
    rfl
  · exact flush0_1 _
  · have h := ((cfg0.win 1).blk ⟨0, by decide⟩).view.emb_mem_set i
    refine (congrArg (· ∈ _) ?_).mp h
    funext a
    exact Fin.ext (Pipeline.Window.rect_emb_val_of_index_zero win0_1 _ a rfl i)

/-- @main's result after the lines that follow the region: the array's one element, as a scalar. -/
theorem tail (c : Dev nD) :
    Pipeline.afterTail₀ cfgs (dats m) 0 (V0 m) [hostOps1] c main_v0 = fun _ => value m c := by
  unfold Pipeline.afterTail₀
  simp only [hostOps1, List.flatten_cons, List.flatten_nil, List.append_nil]
  after_results_simp
  have hinj : Function.Injective (Pipeline.arrRef (cfgs 0).spec) := by decide
  have h := (Pipeline.withArrays_arr (cfgs 0).spec hinj c (V0 m c)
    (fun w => (dats m 0 c).arrAt w (cfgs 0).N) 1).trans (final m c)
  funext i
  exact congrFun (congrArg (fun x => shapeCast (s := S1x1) S_ x shapeCasts_S1x1_S_) h) i

/-- THE KERNEL'S RUN: every weakly fair execution ends with @main's result at the body's value of the sorted predictions and
    the arguments unchanged. -/
theorem run : θ_run defs (onTc (τ := τ) (main (F := F))) ⟨m, fun _ => 0, ρ⟩ fun r => ∀ c : Dev nD,
      r.2.mem ((c.tc : Thread nD τ).loc main_v0) = (fun _ => value m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h.1 c).2 main_v0 (Pipeline.mem_restRefs_of main_v0 (by decide) (by decide))).trans (tail m c), h.2 c⟩)
    (θ_run_and (run_main m ρ) (unchanged m ρ))

end Cert.KernelIdeal.Hand

end
-- ==== Proof.Loss.lean ====
/- Hand-written, untrusted: THE ARITHMETIC OF THE LOSS. A running sum taken block by block is the running sum; the largest of a
   column does not depend on its order; and the kernel's total and the reference's total are the same real number. -/
module

public import Mathlib.Data.EReal.Operations
public import Mathlib.Algebra.BigOperators.Fin
public import Mathlib.Data.Fintype.BigOperators
public import Mathlib.Tactic.Ring
public import Mathlib.Order.Fin.Basic

@[expose] public section

noncomputable section

namespace Cert.Loss

variable {M : Type} [AddCommMonoid M]

/-- A sum over `16384` positions is the sum over `128` blocks of the sums over each block's `128` positions. -/
theorem sum_blocks (f : Fin 16384 → M) :
    ∑ i, f i = ∑ a : Fin 128, ∑ q : Fin 128, f ⟨a.val * 128 + q.val, by omega⟩ := by
  rw [← Fintype.sum_prod_type' (f := fun (a : Fin 128) (q : Fin 128) => f ⟨a.val * 128 + q.val, by omega⟩)]
  refine (Fintype.sum_equiv (finProdFinEquiv : Fin 128 × Fin 128 ≃ Fin (128 * 128)) _ _ fun p => ?_).symm
  refine congrArg f (Fin.ext ?_)
  show p.1.val * 128 + p.2.val = p.2.val + 128 * p.1.val
  omega

/-- A running sum over `16384` positions, block by block: the positions so far of the block it has reached, and every earlier
    block whole. -/
theorem running_blocks (f : Fin 16384 → M) (a b : Fin 128) :
    (∑ q : Fin 128, if q.val ≤ b.val then f ⟨a.val * 128 + q.val, by omega⟩ else 0)
      + (∑ a' : Fin 128, if a'.val < a.val then ∑ q : Fin 128, f ⟨a'.val * 128 + q.val, by omega⟩ else 0)
      = ∑ i : Fin 16384, if i.val ≤ a.val * 128 + b.val then f i else 0 := by
  rw [sum_blocks]
  have h : ∀ a' : Fin 128, (∑ q : Fin 128, if a'.val * 128 + q.val ≤ a.val * 128 + b.val then f ⟨a'.val * 128 + q.val, by omega⟩ else 0)
      = (if a' = a then ∑ q : Fin 128, (if q.val ≤ b.val then f ⟨a.val * 128 + q.val, by omega⟩ else 0) else 0)
        + (if a'.val < a.val then ∑ q : Fin 128, f ⟨a'.val * 128 + q.val, by omega⟩ else 0) := by
    intro a'
    rcases lt_trichotomy a'.val a.val with hlt | heq | hgt
    · rw [if_neg (fun e => by subst e; omega), if_pos hlt, zero_add]
      exact Finset.sum_congr rfl fun q _ => if_pos (by omega)
    · obtain rfl : a' = a := Fin.ext heq
      rw [if_pos rfl, if_neg (by omega), add_zero]
      exact Finset.sum_congr rfl fun q _ => if_congr (by omega) rfl rfl
    · rw [if_neg (fun e => by subst e; omega), if_neg (by omega), add_zero]
      exact Finset.sum_eq_zero fun q _ => if_neg (by omega)
  simp only [h, Finset.sum_add_distrib, Finset.sum_ite_eq', Finset.mem_univ, if_true]

/-- The largest of finitely many extended reals does not depend on the order they come in. -/
theorem max_order {n : Nat} (f : Fin n → EReal) (g : Fin n → Fin n) (hg : Function.Bijective g) :
    Finset.univ.fold max ⊥ (fun i => f (g i)) = Finset.univ.fold max ⊥ f := by
  show Finset.univ.sup (fun i => f (g i)) = Finset.univ.sup f
  refine le_antisymm (Finset.sup_le fun i _ => Finset.le_sup (f := f) (Finset.mem_univ _)) (Finset.sup_le fun i _ => ?_)
  obtain ⟨j, rfl⟩ := hg.2 i
  exact Finset.le_sup (f := fun i => f (g i)) (Finset.mem_univ _)

/-- The largest of finitely many reals, at least one, is a real. -/
theorem max_real {n : Nat} [NeZero n] (x : Fin n → ℝ) : ∃ m : ℝ, Finset.univ.fold max ⊥ (fun i => (x i : EReal)) = m := by
  obtain ⟨i, _, hi⟩ := Finset.exists_mem_eq_sup Finset.univ ⟨(0 : Fin n), Finset.mem_univ _⟩ (fun i => (x i : EReal))
  exact ⟨x i, hi⟩

/-- A finite sum of reals is the same taken among the extended reals. -/
theorem coe_sum {ι : Type} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- THE LOSS TWO WAYS. Per column: `16384` times the largest, less the sum, plus the sum of the logarithms; or the negated sum of
    what remains of each entry, less the largest, less the logarithm, the entries taken in reverse. -/
theorem loss_eq (x : Fin 16384 → Fin 32 → ℝ) (m : Fin 32 → ℝ) (l : Fin 16384 → Fin 32 → ℝ) :
    ((∑ d, (16384 : ℝ) * (m d : EReal)) - (∑ d, ∑ i, (x i d : EReal)))
        + ∑ a : Fin 128, ∑ d, ∑ b : Fin 128, (l ⟨a.val * 128 + b.val, by omega⟩ d : EReal)
      = ∑ d, -(∑ i : Fin 16384, (((x i.rev d : EReal) - (m d : EReal)) - (l i.rev d : EReal))) := by
  have hr : ∀ d, ∑ i : Fin 16384, (x i.rev d - m d - l i.rev d) = ∑ i : Fin 16384, (x i d - m d - l i d) := fun d =>
    Equiv.sum_comp Fin.revPerm fun i => x i d - m d - l i d
  have hl : ∑ a : Fin 128, ∑ d, ∑ b : Fin 128, l ⟨a.val * 128 + b.val, by omega⟩ d = ∑ d, ∑ i, l i d := by
    rw [Finset.sum_comm]
    exact Finset.sum_congr rfl fun d _ => (sum_blocks fun i => l i d).symm
  simp only [← EReal.coe_mul, ← EReal.coe_sub, ← coe_sum, ← EReal.coe_add, ← EReal.coe_neg]
  rw [hl]
  refine congrArg _ ?_
  simp only [hr, Finset.sum_sub_distrib, Finset.sum_const, Finset.card_univ, Fintype.card_fin,
    Finset.sum_neg_distrib, nsmul_eq_mul]
  push_cast
  ring

end Cert.Loss

end
-- ==== Proof.KernelValue.lean ====
/- Hand-written, untrusted: WHAT THE KERNEL'S BODY STORES, as a formula of the array it loads. The two triangular masks are ones and
   zeros, so the first product sums a block up to a position and the second sums the blocks before it; together they are the
   column's running sum. -/
module

public import proofs.«01_k».proof.Proof.Gen.KernelIdeal.Skeleton
public import proofs.«01_k».proof.Proof.Loss
public import Idealize.ShloMosaic.Lib.Pointwise

@[expose] public section

set_option maxRecDepth 65536

noncomputable section

namespace Cert.KernelIdeal.Hand

open Cert.KernelIdeal Cert.KernelIdeal.Gen Idealize.ShloMosaic

/-- A sum over the three inner axes of an array whose outer axis has size one is the sum over every entry. -/
theorem sum_all {n1 n2 n3 : Nat} (h : (⟨4, ![1, n1, n2, n3]⟩ : Shape).Reduces [1, 2, 3] S1)
    (x : (⟨4, ![1, n1, n2, n3]⟩ : Shape).Idx → EReal) (j : S1.Idx) :
    Ideal.reduceAdd h x j = ∑ p : Fin n1, ∑ d : Fin n2, ∑ q : Fin n3, x (ix4 (0 : Fin 1) p d q) := by
  show ∑ i ∈ Finset.univ.filter (fun i => h.drop i = j), x i = _
  rw [Finset.sum_filter_eq_sum_of_fiber (fun i => h.drop i = j)
    (fun k : Fin n1 × Fin n2 × Fin n3 => (ix4 (0 : Fin 1) k.1 k.2.1 k.2.2 : (⟨4, ![1, n1, n2, n3]⟩ : Shape).Idx))
    (fun k k' e => Prod.ext (congrFun e 1) (Prod.ext (congrFun e 2) (congrFun e 3))) (fun i => ?_) x]
  · simp only [Fintype.sum_prod_type]
  · constructor
    · intro _
      refine ⟨(i 1, i 2, i 3), ?_⟩
      funext a
      apply Fin.ext
      match a with
      | ⟨0, _⟩ => exact (Nat.lt_one_iff.mp (i 0).isLt).symm
      | ⟨1, _⟩ => rfl
      | ⟨2, _⟩ => rfl
      | ⟨3, _⟩ => rfl
    · intro _
      funext b
      apply Fin.ext
      have h1 := (h.drop i b).isLt
      have h2 := (j b).isLt
      match b with
      | ⟨0, _⟩ => exact (Nat.lt_one_iff.mp h1).trans (Nat.lt_one_iff.mp h2).symm

/-- A position below 128 read as a signed word is itself. -/
theorem small_toInt (q : Fin 128) : (BitVec.ofNat 32 q.val).toInt = q.val := by
  have := q.isLt
  rw [BitVec.toInt_eq_toNat_of_lt (by rw [BitVec.toNat_ofNat]; omega), BitVec.toNat_ofNat]
  omega

/-- A bit widened and converted is one or zero. -/
theorem bit (b : Bool) : (FloatOps.sitofp .f32 (BitVec.setWidth 32 (BitVec.ofBool b)) : Ideal .f32) = if b then (1 : EReal) else 0 := by
  show (((BitVec.setWidth 32 (BitVec.ofBool b)).toInt : ℝ) : EReal) = _
  cases b <;> simp

/-- The inclusive triangle: one where the position is at most the other, zero elsewhere. -/
theorem mask_le (q b : Fin 128) :
    (FloatOps.sitofp .f32 (BitVec.setWidth 32 (IntOp.cmpi .sle (BitVec.ofNat 32 q.val) (BitVec.ofNat 32 b.val))) : Ideal .f32)
      = if q.val ≤ b.val then (1 : EReal) else 0 := by
  refine (bit _).trans ?_
  rw [BitVec.sle_eq_decide, small_toInt, small_toInt]
  exact if_congr (by simp) rfl rfl

/-- The strict triangle: one where the position is below the other, zero elsewhere. -/
theorem mask_lt (q b : Fin 128) :
    (FloatOps.sitofp .f32 (BitVec.setWidth 32 (IntOp.cmpi .slt (BitVec.ofNat 32 q.val) (BitVec.ofNat 32 b.val))) : Ideal .f32)
      = if q.val < b.val then (1 : EReal) else 0 := by
  refine (bit _).trans ?_
  rw [BitVec.slt_eq_decide, small_toInt, small_toInt]
  exact if_congr (by simp) rfl rfl

/-- WHAT THE BODY STORES: per column `16384` times its largest entry, less its sum, plus the sum of the logarithms of the running
    sums of the exponentials of its entries less the largest; the total divided by `32`. -/
theorem stored (v : FVec Ideal S16384x32 .f32) :
    k0_pay1 (F := Ideal) v = Ideal.div
      (((∑ d : Fin 32, Ideal.ofBits .f32 0x46800000#32 * Finset.univ.fold max (Ideal.ofBits .f32 0xFF800000#32) fun k : Fin 16384 => v (ix2 k d))
          - ∑ d : Fin 32, ∑ i : Fin 16384, v (ix2 i d))
        + ∑ a : Fin 128, ∑ d : Fin 32, ∑ b : Fin 128, Ideal.log (∑ i : Fin 16384, if i.val ≤ a.val * 128 + b.val then
            Ideal.exp (v (ix2 i d) - Finset.univ.fold max (Ideal.ofBits .f32 0xFF800000#32) fun k : Fin 16384 => v (ix2 k d)) else 0))
      (Ideal.ofBits .f32 0x42000000#32) := by
  pointwise [k0_pay1]
  erw [sum_all]
  pointwise
  refine congrArg (Ideal.div · _) (congrArg₂ (· + ·) ?_ (Finset.sum_congr rfl fun a _ => Finset.sum_congr rfl fun d _ =>
    Finset.sum_congr rfl fun b _ => congrArg Ideal.log ?_))
  · exact congrArg₂ (· - ·) (Fin.sum_univ_one _) (by first | rfl | exact Fin.sum_univ_one _)
  generalize (Finset.univ.fold max (Ideal.ofBits .f32 0xFF800000#32) fun k : Fin 16384 => v (ix2 k d)) = m
  rw [← Cert.Loss.running_blocks (fun i => Ideal.exp (v (ix2 i d) - m)) a b]
  refine congrArg₂ (· + ·) (Finset.sum_congr rfl fun q _ => ?_) (Finset.sum_congr rfl fun a' _ => ?_)
  · rw [mask_le]
    split
    · exact mul_one _
    · exact mul_zero _
  · rw [mask_lt]
    split
    · exact one_mul _
    · exact zero_mul _

end Cert.KernelIdeal.Hand

end
-- ==== Proof.Order.lean ====
/- Hand-written, untrusted: WHAT A STABLE SORT BY ONE KEY DOES. Positions are ordered by a key, smallest first. Where the sorted
   keys strictly ascend no two keys are equal, and then sorting by the negated key gives the same positions in reverse. -/
module

public import Idealize.ShloMosaic.Lib.SortFacts
public import Mathlib.Data.EReal.Operations
public import Mathlib.Order.Fin.Basic
public import Mathlib.Order.WellFounded

@[expose] public section

noncomputable section

namespace Cert.Loss

open Idealize.ShloMosaic

variable {n : Nat}

/-- The position that lands at each place when positions are sorted stably by `key`, smallest first. -/
def order (key : Fin n → EReal) : Fin n → Fin n := sortedFrom fun k k' => decide (key k < key k')

/-- Every position lands at exactly one place. -/
theorem order_bijective (key : Fin n → EReal) : Function.Bijective (order key) :=
  ⟨sortedFrom_injective _, sortedFrom_surjective _⟩

/-- The keys, read in the sorted order, never descend. -/
theorem order_le (key : Fin n → EReal) (i j : Fin n) (hij : i < j) : key (order key i) ≤ key (order key j) := by
  have h := sortedFrom_noInversion (fun k k' : Fin n => decide (key k < key k')) (fun k k' => decide (key k < key k'))
    (fun a b hab => by simp only [decide_eq_true_eq, decide_eq_false_iff_not, not_lt] at hab ⊢; exact hab.le)
    (fun a b hab => hab)
    (fun a b c hab hbc => by simp only [decide_eq_false_iff_not, not_lt] at hab hbc ⊢; exact hbc.trans hab) i j hij
  simp only [decide_eq_false_iff_not, not_lt] at h
  exact h

/-- The keys, read in the sorted order, strictly ascend when no two are equal. -/
theorem order_strictMono (key : Fin n → EReal) (hinj : Function.Injective key) : StrictMono fun i => key (order key i) :=
  fun i j hij => lt_of_le_of_ne (order_le key i j hij) fun e => hij.ne ((order_bijective key).1 (hinj e))

/-- Where each sorted key is below the next, no two keys are equal. -/
theorem injective_of_ascending (key : Fin n → EReal)
    (h : ∀ (i : Nat) (hi : i + 1 < n), key (order key ⟨i, by omega⟩) < key (order key ⟨i + 1, hi⟩)) : Function.Injective key := by
  have hm : StrictMono fun i => key (order key i) := by
    rcases n with _ | n
    · exact fun i => i.elim0
    · exact Fin.strictMono_iff_lt_succ.mpr fun i => h i.val (by omega)
  intro a b e
  obtain ⟨i, rfl⟩ := (order_bijective key).2 a
  obtain ⟨j, rfl⟩ := (order_bijective key).2 b
  exact congrArg _ (hm.injective e)

/-- Sorting by the negated key gives the sorted positions in reverse, when no two keys are equal. -/
theorem order_neg (key : Fin n → EReal) (hinj : Function.Injective key) (i : Fin n) :
    order (fun k => -key k) i = order key i.rev := by
  have hneg : Function.Injective fun k => -key k := fun a b e => hinj (neg_injective e)
  have h1 := order_strictMono key hinj
  have h2 : StrictMono fun i : Fin n => key (order (fun k => -key k) i.rev) := fun a b hab =>
    EReal.neg_lt_neg_iff.mp (order_strictMono _ hneg (Fin.rev_lt_rev.mpr hab))
  have hr : Set.range (fun i => key (order key i)) = Set.range fun i : Fin n => key (order (fun k => -key k) i.rev) := by
    ext y
    constructor
    · rintro ⟨i, rfl⟩
      obtain ⟨j, hj⟩ := (order_bijective fun k => -key k).2 (order key i)
      exact ⟨j.rev, by simp only [Fin.rev_rev, hj]⟩
    · rintro ⟨i, rfl⟩
      obtain ⟨j, hj⟩ := (order_bijective key).2 (order (fun k => -key k) i.rev)
      exact ⟨j, by simp only [hj]⟩
  have := congrFun ((h1.range_inj h2).mp hr) i.rev
  simp only [Fin.rev_rev] at this
  exact (hinj this).symm

end Cert.Loss

end
-- ==== Proof.Sorting.lean ====
/- Hand-written, untrusted: THE THREE SORTS, READ AT AN INDEX. The kernel sorts labels with predictions, the reference sorts negated
   labels with positions, the precondition sorts labels alone. Every one compares labels only, and at the extended reals its
   comparison is `<`: zeros of either sign are one number and nothing is a NaN. So each sort reads its column through `order`. -/
module

public import proofs.«01_k».proof.Proof.Gen.KernelIdeal
public import proofs.«01_k».proof.Proof.Gen.ReferenceIdeal
public import proofs.«01_k».proof.Proof.Gen.Pre_finite_and_untied
public import proofs.«01_k».proof.Proof.Order
public import Idealize.ShloMosaic.Lib.Pointwise

@[expose] public section

set_option maxRecDepth 16384

noncomputable section

namespace Cert.Loss

open Idealize.ShloMosaic

/-- A label with zero put for zero, and a NaN's word where it is not itself, is the label. -/
theorem plain (x : EReal) : Scalar.select (FloatOps.cmpf (F := Ideal) (φ := .f32) .une x x) (Ideal.ofBits .f32 0x7FC00000#32)
    (Scalar.select (FloatOps.cmpf (F := Ideal) (φ := .f32) .oeq x (Ideal.ofBits .f32 0x00000000#32)) (Ideal.ofBits .f32 0x00000000#32) x) = x := by
  have h1 : FloatOps.cmpf (F := Ideal) (φ := .f32) .une x x = 0#1 := by
    show BitVec.ofBool (decide (x ≠ x)) = 0#1
    simp
  rw [h1, Ideal.ofBits_zero_f32]
  show Scalar.select (BitVec.ofBool (decide (x = 0))) 0 x = x
  by_cases h : x = 0
  · simp [h, Scalar.select]
  · simp [h, Scalar.select]

/-- The kernel's comparison of two rows compares their labels. -/
theorem kernel_before (l r : EReal × EReal) :
    (KernelIdeal.comparator_f32_f32_d0 (F := Ideal) l r == 1#1) = decide (l.1 < r.1) := by
  have h : KernelIdeal.comparator_f32_f32_d0 (F := Ideal) l r = BitVec.ofBool (decide (l.1 < r.1)) :=
    congrArg₂ (fun a b => BitVec.ofBool (decide (a < b))) (plain l.1) (plain r.1)
  rw [h]
  cases decide (l.1 < r.1) <;> rfl

/-- The reference's comparison of two rows compares their negated labels. -/
theorem reference_before (l r : EReal × BitVec 32) :
    (ReferenceIdeal.comparator_f32_i32_d0 (F := Ideal) l r == 1#1) = decide (l.1 < r.1) := by
  have h : ReferenceIdeal.comparator_f32_i32_d0 (F := Ideal) l r = BitVec.ofBool (decide (l.1 < r.1)) :=
    congrArg₂ (fun a b => BitVec.ofBool (decide (a < b))) (plain l.1) (plain r.1)
  rw [h]
  cases decide (l.1 < r.1) <;> rfl

/-- The precondition's comparison compares labels. -/
theorem pre_before (l r : EReal) : (Pre_finite_and_untied.comparator_f32_d0 (F := Ideal) l r == 1#1) = decide (l < r) := by
  have h : Pre_finite_and_untied.comparator_f32_d0 (F := Ideal) l r = BitVec.ofBool (decide (l < r)) :=
    congrArg₂ (fun a b => BitVec.ofBool (decide (a < b))) (plain l) (plain r)
  rw [h]
  cases decide (l < r) <;> rfl

/-- Changing the row of an index keeps the column. -/
theorem along_row {N C : Nat} (r k : Fin N) (c : Fin C) :
    Shape.Idx.along (s := ⟨2, ![N, C]⟩) (ix2 r c) (0 : Fin 2) k = ix2 k c := by
  funext a
  match a with
  | ⟨0, _⟩ => rfl
  | ⟨1, _⟩ => rfl

/-- A two-operand sort down the columns whose comparison is `<` on the first operand reads the second through `order`. -/
theorem sort2_read {N C : Nat} {β : Type} (cmp : EReal × β → EReal × β → BitVec 1)
    (hcmp : ∀ l r, (cmp l r == 1#1) = decide (l.1 < r.1)) (x : (⟨2, ![N, C]⟩ : Shape).Idx → EReal) (y : (⟨2, ![N, C]⟩ : Shape).Idx → β)
    (r : Fin N) (c : Fin C) :
    (Host.sort2 ⟨2, ![N, C]⟩ 0 cmp x y).2 (ix2 r c) = y (ix2 (order (fun k => x (ix2 k c)) r) c) := by
  unfold Host.sort2
  rw [dif_pos (show 0 < 2 by decide)]
  refine (congrArg y (along_row r (sortedFrom _ r) c)).trans (congrArg (fun k => y (ix2 k c)) ?_)
  unfold order
  refine congrFun (congrArg sortedFrom (funext fun k => funext fun k' => ?_)) r
  rw [hcmp]
  exact congrArg₂ (fun i j => decide (x i < x j)) (along_row r k c) (along_row r k' c)

/-- A one-operand sort down the columns whose comparison is `<` reads its operand through `order`. -/
theorem sort_read {N C : Nat} (cmp : EReal → EReal → BitVec 1) (hcmp : ∀ l r, (cmp l r == 1#1) = decide (l < r))
    (x : (⟨2, ![N, C]⟩ : Shape).Idx → EReal) (r : Fin N) (c : Fin C) :
    Host.sort ⟨2, ![N, C]⟩ 0 cmp x (ix2 r c) = x (ix2 (order (fun k => x (ix2 k c)) r) c) := by
  unfold Host.sort
  rw [dif_pos (show 0 < 2 by decide)]
  refine (congrArg x (along_row r (sortedFrom _ r) c)).trans (congrArg (fun k => x (ix2 k c)) ?_)
  unfold order
  refine congrFun (congrArg sortedFrom (funext fun k => funext fun k' => ?_)) r
  rw [hcmp]
  exact congrArg₂ (fun i j => decide (x i < x j)) (along_row r k c) (along_row r k' c)

/-- An extended real whose absolute value is below infinity is a real number. -/
theorem real_of_abs (y : EReal) (h : BitVec.ofBool (decide (max y (-y) < ⊤)) = 1#1) : ∃ x : ℝ, y = x := by
  induction y using EReal.rec with
  | bot => simp at h
  | coe x => exact ⟨x, rfl⟩
  | top => simp at h

/-- WHAT THE PRECONDITION SAYS, of predictions and labels: every prediction is a real number. -/
theorem real_of_pre (preds labels : FVec Ideal Pre_finite_and_untied.S16384x32 .f32)
    (h : (Pre_finite_and_untied.fn (F := Ideal) preds labels).1 = fun _ => 1#1) (r : Fin 16384) (c : Fin 32) :
    ∃ x : ℝ, preds (ix2 r c) = (x : EReal) := by
  have h1 := congrFun h (ix2 r c)
  pointwise [Pre_finite_and_untied.fn] at h1
  have htop : Ideal.ofBits .f32 0x7F800000#32 = (⊤ : EReal) := by simp [Ideal.ofBits, Ideal.ieee]
  rw [htop] at h1
  exact real_of_abs _ h1

/-- … and no two labels of a column are equal. -/
theorem injective_of_pre (preds labels : FVec Ideal Pre_finite_and_untied.S16384x32 .f32)
    (h : (Pre_finite_and_untied.fn (F := Ideal) preds labels).2 = fun _ => 1#1) (c : Fin 32) :
    Function.Injective fun k : Fin 16384 => labels (ix2 k c) := by
  refine injective_of_ascending _ fun i hi => ?_
  have h1 := congrFun h (ix2 (⟨i, by omega⟩ : Fin 16383) c)
  pointwise [Pre_finite_and_untied.fn, Pre_finite_and_untied.fn_sort] at h1
  rw [show (ix2 (⟨1 + i, by omega⟩ : Fin 16384) c : Pre_finite_and_untied.S16384x32.Idx) = ix2 ⟨i + 1, hi⟩ c from
    congrArg (fun k => ix2 k c) (Fin.ext (Nat.add_comm 1 i))] at h1
  have e := sort_read (N := 16384) (C := 32) _ pre_before labels
  rw [show Host.sort Pre_finite_and_untied.S16384x32 0 Pre_finite_and_untied.comparator_f32_d0 labels (ix2 ⟨i, by omega⟩ c) = _ from
      e ⟨i, by omega⟩ c,
    show Host.sort Pre_finite_and_untied.S16384x32 0 Pre_finite_and_untied.comparator_f32_d0 labels (ix2 ⟨i + 1, hi⟩ c) = _ from
      e ⟨i + 1, hi⟩ c] at h1
  by_contra hn
  rw [decide_eq_false hn] at h1
  exact absurd h1 (by decide)

end Cert.Loss

end
-- ==== Proof.Window.lean ====
/- Hand-written, untrusted: THE RUNNING SUM AS JAX PRINTS IT. A float `cumsum` down the columns of an `[N, C]` array prints as a
   window sum: a window as tall as the array, the array padded above by one row less. At exact addition its row `r` is the sum
   of rows `0` to `r`. -/
module

public import Idealize.ShloMosaic.PureOps.Ideal
public import Idealize.ShloMosaic.Lib.Pointwise.Index
public import Mathlib.Algebra.BigOperators.Fin
public import Mathlib.Data.Fintype.BigOperators

@[expose] public section

noncomputable section

namespace Cert.Loss

open Idealize.ShloMosaic

/-- Adding terms one after another onto a start is the start plus their sum. -/
theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- The window at row `r`, padded above by one row less than its height, covers rows `0` to `r`. -/
theorem window_rows {N P : Nat} (hN : P + 1 = N) (g : Fin N → EReal) (r : Fin N) :
    (∑ w : Fin N, if h : P ≤ r.val + w.val then g ⟨r.val + w.val - P, by omega⟩ else 0)
      = ∑ i : Fin N, if i.val ≤ r.val then g i else 0 := by
  have e1 : ∀ w : Fin N, (if h : P ≤ r.val + w.val then g ⟨r.val + w.val - P, by omega⟩ else 0)
      = if P ≤ r.val + w.val then g ⟨r.val + w.val - P, by omega⟩ else 0 := fun w => by split <;> rfl
  simp only [e1, ← Finset.sum_filter]
  refine Finset.sum_bij (fun w _ => (⟨r.val + w.val - P, by omega⟩ : Fin N)) (fun w hw => ?_) (fun w hw w' hw' e => ?_) (fun i hi => ?_)
    (fun w hw => rfl)
  · simp only [Finset.mem_filter, Finset.mem_univ, true_and] at hw ⊢
    omega
  · simp only [Finset.mem_filter, Finset.mem_univ, true_and] at hw hw'
    have := congrArg Fin.val e
    simp only at this
    exact Fin.ext (by omega)
  · simp only [Finset.mem_filter, Finset.mem_univ, true_and] at hi
    refine ⟨⟨i.val + P - r.val, by omega⟩, ?_, Fin.ext ?_⟩
    · simp only [Finset.mem_filter, Finset.mem_univ, true_and]
      omega
    · simp only
      omega

/-- JAX'S FLOAT RUNNING SUM DOWN THE COLUMNS, from zero: row `r` holds the sum of rows `0` to `r`. -/
theorem running {N C P : Nat} (hN : P + 1 = N) (x : (⟨2, ![N, C]⟩ : Shape).Idx → EReal)
    (h : (⟨2, ![N, C]⟩ : Shape).ReduceWindows (![N, 1] : Fin 2 → Nat) ![1, 1] ![P, 0] ![0, 0] ⟨2, ![N, C]⟩) (r : Fin N) (c : Fin C) :
    Ideal.hostReduceWindowAdd (![N, 1] : Fin 2 → Nat) ![1, 1] ![P, 0] ![0, 0] h x 0 (ix2 r c)
      = ∑ i : Fin N, if i.val ≤ r.val then x (ix2 i c) else 0 := by
  rw [← window_rows hN (fun i => x (ix2 i c)) r]
  unfold Ideal.hostReduceWindowAdd Host.reduceWindow
  refine (foldl_add _ _ _).trans ?_
  rw [zero_add, ← Fin.sum_univ_def]
  let W : Shape := ⟨2, ![N, 1]⟩
  let G : W.Idx → EReal := fun w => if hin : P ≤ r.val + (w 0).val then x (ix2 ⟨r.val + (w 0).val - P, by have := (w 0).isLt; have : (w 0).val < N := this; omega⟩ c) else 0
  refine (Finset.sum_congr rfl (g := fun n => G (W.rowMajor.symm n)) fun n _ => ?_).trans ?_
  · change _ = G (W.rowMajor.symm n)
    have h1 : (W.rowMajor.symm n 1).val = 0 := Nat.lt_one_iff.mp (W.rowMajor.symm n 1).isLt
    have h0 : (W.rowMajor.symm n 0).val < N := (W.rowMajor.symm n 0).isLt
    have hc := c.isLt
    have hr := r.isLt
    dsimp only [G]
    by_cases hP : P ≤ r.val + (W.rowMajor.symm n 0).val
    · rw [dif_pos hP, dif_pos]
      · refine congrArg x (funext fun a => Fin.ext ?_)
        match a with
        | ⟨0, _⟩ =>
          show r.val * 1 + (W.rowMajor.symm n 0).val - P = r.val + (W.rowMajor.symm n 0).val - P
          rw [Nat.mul_one]
        | ⟨1, _⟩ =>
          show c.val * 1 + (W.rowMajor.symm n 1).val - 0 = c.val
          omega
      · intro a
        match a with
        | ⟨0, _⟩ =>
          show P ≤ r.val * 1 + (W.rowMajor.symm n 0).val ∧ r.val * 1 + (W.rowMajor.symm n 0).val - P < N
          omega
        | ⟨1, _⟩ =>
          show 0 ≤ c.val * 1 + (W.rowMajor.symm n 1).val ∧ c.val * 1 + (W.rowMajor.symm n 1).val - 0 < C
          omega
    · rw [dif_neg hP, dif_neg fun hin => hP ?_]
      have h2 : P ≤ r.val * 1 + (W.rowMajor.symm n 0).val := (hin 0).1
      omega
  · rw [Equiv.sum_comp W.rowMajor.symm G]
    refine Fintype.sum_equiv ⟨fun w => w 0, fun w => ix2 w 0, fun w => ?_, fun w => rfl⟩ _ _ fun w => rfl
    funext a
    match a with
    | ⟨0, _⟩ => rfl
    | ⟨1, _⟩ => exact Fin.ext (Nat.lt_one_iff.mp (w 1).isLt).symm

/-- The same of the host's operation, for an initial value of zero. -/
theorem host_running {N C P : Nat} (hN : P + 1 = N) {u : Shape} (x : FVec Ideal ⟨2, ![N, C]⟩ .f32) (init : FVec Ideal u .f32)
    (h : (⟨2, ![N, C]⟩ : Shape).ReduceWindows (![N, 1] : Fin 2 → Nat) ![1, 1] ![P, 0] ![0, 0] ⟨2, ![N, C]⟩) (hu : 0 < u.numel)
    (h0 : init (Shape.Idx.first hu) = (0 : EReal)) (r : Fin N) (c : Fin C) :
    Host.reduceWindowAdd (![N, 1] : Fin 2 → Nat) ![1, 1] ![P, 0] ![0, 0] x init h hu (ix2 r c)
      = ∑ i : Fin N, if i.val ≤ r.val then (x (ix2 i c) : EReal) else 0 := by
  unfold Host.reduceWindowAdd
  rw [h0]
  exact running hN x h r c

end Cert.Loss

end
-- ==== Proof.Taken.lean ====
/- Hand-written, untrusted: WHAT THE REFERENCE TAKES. `argsort` of the negated labels gives positions; `take_along_axis` wraps a
   negative one, masks one out of range and gathers. Every position is in range, so the entry taken at a row is the prediction at the
   row's position. -/
module

public import proofs.«01_k».proof.Proof.Gen.ReferenceIdeal.Run
public import proofs.«01_k».proof.Proof.Sorting
public import proofs.«01_k».proof.Proof.Window
public import Idealize.ShloMosaic.Lib.Pointwise
public import Idealize.ShloMosaic.Lib.ReduceAll
public import Idealize.ShloMosaic.Lib.ValueIdxCore
public import Idealize.ShloMosaic.Lib.Routing.OpsPair

@[expose] public section

set_option maxRecDepth 16384

noncomputable section

namespace Cert.ReferenceIdeal.Hand

open Cert.ReferenceIdeal Cert.ReferenceIdeal.Gen Idealize.ShloMosaic Idealize.SL.Sem

/-- The positions, largest label first: the second result of the sort of the negated labels with the row numbers. -/
def positions (labels : FVec Ideal S16384x32 .f32) : IVec S16384x32 32 :=
  (Host.sort2 S16384x32 0 (comparator_f32_i32_d0 (F := Ideal)) (Host.negf labels) (iotaInDim S16384x32 32 0)).2

/-- The positions as `take_along_axis` reads them: a negative one wrapped, one component to an index. -/
def wrapped (labels : FVec Ideal S16384x32 .f32) : IVec S16384x32x1 32 :=
  shapeCast S16384x32x1 (select (cmpi .slt (positions labels) (broadcastInDim S16384x32 ![] bcast_S_S16384x32 (constantI S_ 32 0#32))) (addi (positions labels) (broadcastInDim S16384x32 ![] bcast_S_S16384x32 (constantI S_ 32 16384#32))) (positions labels)) shapeCasts_S16384x32_S16384x32x1

/-- Which positions are in range. -/
def inRange (labels : FVec Ideal S16384x32 .f32) : IVec S16384x32 1 :=
  Host.reduce IntOp.andi (andi (cmpi .sge (wrapped labels) (broadcastInDim S16384x32x1 ![] bcast_S_S16384x32x1 (constantI S_ 32 0#32))) (cmpi .sle (wrapped labels) (broadcastInDim S16384x32x1 ![0, 1, 2] bcast_S1x1x1_S16384x32x1_0_1_2 (broadcastInDim S1x1x1 ![2] bcast_S1_S1x1x1_2 (constantI S1 32 16383#32))))) (constantI S_ 1 1#1) reducesTo_S16384x32x1_S16384x32_d2 h_S_

/-- The predictions taken at the positions; where a position is out of range, a NaN's word. -/
def taken (labels preds : FVec Ideal S16384x32 .f32) : FVec Ideal S16384x32 .f32 :=
  select (inRange labels) (Host.gather gather_S16384x32_S16384x32x1_S16384x32_n_0_1_1_0_2_11 preds (wrapped labels)) (broadcastInDim S16384x32 ![] bcast_S_S16384x32 (constant S_ .f32 0x7FC00000#32))

/-- Each entry less its column's largest. -/
def shifted (y : FVec Ideal S16384x32 .f32) : FVec Ideal S16384x32 .f32 :=
  subf y (broadcastInDim S16384x32 ![0, 1] bcast_S1x32_S16384x32_0_1 (broadcastInDim S1x32 ![1] bcast_S32_S1x32_1 (Host.reduce FloatOps.maximumf y (constant S_ .f32 0xFF800000#32) reducesTo_S16384x32_S32_d0 h_S_)))

/-- The exponentials from the last row up, their running sums, and the sums' logarithms. -/
def logs (y : FVec Ideal S16384x32 .f32) : FVec Ideal S16384x32 .f32 :=
  Host.log (Host.reduceWindowAdd ![16384, 1] ![1, 1] ![16383, 0] ![0, 0] (Host.exp (Host.reverse [0] (shifted y))) (broadcastInDim S_ ![] bcast_S_S_ (constant S_ .f32 0x00000000#32)) reduceWindows_S16384x32_S16384x32_w16384s1p16383_0_w1s1p0_0 h_S_)

/-- The reference's loss of the predictions it took. -/
def loss (y : FVec Ideal S16384x32 .f32) : FVec Ideal S_ .f32 :=
  Host.divf (Host.reduceAdd (Host.negf (Host.reduceAdd (subf (shifted y) (Host.reverse [0] (logs y))) (constant S_ .f32 0x00000000#32) reducesTo_S16384x32_S32_d0 h_S_)) (constant S_ .f32 0x00000000#32) reducesTo_S32_S_d0 h_S_) (constant S_ .f32 0x42000000#32)

/-- The reference's result is its loss of the predictions it took. -/
theorem result (m : (ℓ : Loc nD τ sig) → Buf (Elt Ideal) ℓ) (c : Dev nD) :
    Value.res_main_v16 m c = loss (taken (m ((c.tc : Thread nD τ).loc main_arg1)) (m ((c.tc : Thread nD τ).loc main_arg0))) := rfl

/-- The position at a row is the row's place in the order of the negated labels. -/
theorem positions_read (labels : FVec Ideal S16384x32 .f32) (r : Fin 16384) (c : Fin 32) :
    positions labels (ix2 r c) = BitVec.ofNat 32 (Cert.Loss.order (fun k => -labels (ix2 k c)) r).val :=
  (Cert.Loss.sort2_read (N := 16384) (C := 32) _ Cert.Loss.reference_before (Host.negf labels) (iotaInDim S16384x32 32 0) r c).trans rfl

/-- A row number is not negative, so it is not wrapped. -/
theorem wrapped_read (labels : FVec Ideal S16384x32 .f32) (r : Fin 16384) (c : Fin 32) (z : Fin 1) :
    wrapped labels (ix3 r c z) = BitVec.ofNat 32 (Cert.Loss.order (fun k => -labels (ix2 k c)) r).val := by
  have hlt := (Cert.Loss.order (fun k => -labels (ix2 k c)) r).isLt
  pointwise [wrapped]
  rw [positions_read]
  exact Routing.wrap_of_lt _ _ (by rw [BitVec.toNat_ofNat]; omega)

/-- A row number read as a signed word is itself. -/
theorem row_toInt (n : Fin 16384) : (BitVec.ofNat 32 n.val).toInt = n.val := by
  have := n.isLt
  rw [BitVec.toInt_eq_toNat_of_lt (by rw [BitVec.toNat_ofNat]; omega), BitVec.toNat_ofNat]
  omega

/-- The gather reads the prediction at the row's position, in the row's column. -/
theorem gathered (labels preds : FVec Ideal S16384x32 .f32) (r : Fin 16384) (c : Fin 32) :
    Host.gather gather_S16384x32_S16384x32x1_S16384x32_n_0_1_1_0_2_11 preds (wrapped labels) (ix2 r c)
      = preds (ix2 (Cert.Loss.order (fun k => -labels (ix2 k c)) r) c) := by
  refine (ValueIdx.gather_take_rows_apply (N := 16384) (C := 32) (B := 16384) (by decide) _ preds (wrapped labels) (ix2 r c)).trans ?_
  have ht : ValueIdx.takeIdx (ix2 r c) = ix3 r c (0 : Fin 1) := by
    funext a
    match a with
    | ⟨0, _⟩ => rfl
    | ⟨1, _⟩ => rfl
    | ⟨2, _⟩ => rfl
  refine congrArg preds (funext fun a => Fin.ext ?_)
  match a with
  | ⟨0, _⟩ =>
    show min (wrapped labels (ValueIdx.takeIdx (ix2 r c))).toInt.toNat (16384 - 1) = (Cert.Loss.order (fun k => -labels (ix2 k c)) r).val
    have := (Cert.Loss.order (fun k => -labels (ix2 k c)) r).isLt
    rw [ht, wrapped_read, row_toInt]
    omega
  | ⟨1, _⟩ =>
    show c.val = c.val
    rfl

/-- Every position is in range. -/
theorem in_range (labels : FVec Ideal S16384x32 .f32) (r : Fin 16384) (c : Fin 32) :
    inRange labels (ix2 r c) = 1#1 := by
  refine Host.reduce_andi_one _ _ _ _ _ rfl fun i => ?_
  have hi : i = ix3 (i 0) (i 1) (i 2) := by
    funext a
    match a with
    | ⟨0, _⟩ => rfl
    | ⟨1, _⟩ => rfl
    | ⟨2, _⟩ => rfl
  have hw : wrapped labels i = BitVec.ofNat 32 (Cert.Loss.order (fun k => -labels (ix2 k (i 1))) (i 0)).val :=
    (congrArg _ hi).trans (wrapped_read labels (i 0) (i 1) (i 2))
  have hlt := (Cert.Loss.order (fun k => -labels (ix2 k (i 1))) (i 0)).isLt
  have hint := row_toInt (Cert.Loss.order (fun k => -labels (ix2 k (i 1))) (i 0))
  show IntOp.andi (IntOp.cmpi .sge (wrapped labels i) 0#32) (IntOp.cmpi .sle (wrapped labels i) 16383#32) = 1#1
  rw [hw]
  generalize Cert.Loss.order (fun k => -labels (ix2 k (i 1))) (i 0) = p at *
  have h1 : IntOp.cmpi .sge (BitVec.ofNat 32 p.val) 0#32 = 1#1 := by
    show BitVec.ofBool ((0#32).sle (BitVec.ofNat 32 p.val)) = 1#1
    have : (0#32).sle (BitVec.ofNat 32 p.val) = true := by
      rw [BitVec.sle_eq_decide, hint]
      simp
    rw [this]; rfl
  have h2 : IntOp.cmpi .sle (BitVec.ofNat 32 p.val) 16383#32 = 1#1 := by
    show BitVec.ofBool ((BitVec.ofNat 32 p.val).sle 16383#32) = 1#1
    have : (BitVec.ofNat 32 p.val).sle 16383#32 = true := by
      rw [BitVec.sle_eq_decide, hint, decide_eq_true_eq]
      show (p.val : Int) ≤ 16383
      omega
    rw [this]; rfl
  rw [h1, h2]
  rfl

/-- WHAT THE REFERENCE TAKES: at each row, the prediction at the row's place in the order of the negated labels. -/
theorem taken_read (labels preds : FVec Ideal S16384x32 .f32) (r : Fin 16384) (c : Fin 32) :
    taken labels preds (ix2 r c) = preds (ix2 (Cert.Loss.order (fun k => -labels (ix2 k c)) r) c) := by
  have h : taken labels preds (ix2 r c) = Scalar.select (inRange labels (ix2 r c))
      (Host.gather gather_S16384x32_S16384x32x1_S16384x32_n_0_1_1_0_2_11 preds (wrapped labels) (ix2 r c)) (Ideal.ofBits .f32 0x7FC00000#32) := rfl
  rw [h, in_range, gathered]
  rfl

/-- The running sum down the columns: row `r` holds the sum of rows `0` to `r`. -/
theorem running_read (x : FVec Ideal S16384x32 .f32) (r : Fin 16384) (c : Fin 32) :
    Host.reduceWindowAdd ![16384, 1] ![1, 1] ![16383, 0] ![0, 0] x (broadcastInDim S_ ![] bcast_S_S_ (constant S_ .f32 0x00000000#32)) reduceWindows_S16384x32_S16384x32_w16384s1p16383_0_w1s1p0_0 h_S_ (ix2 r c)
      = ∑ i : Fin 16384, if i.val ≤ r.val then x (ix2 i c) else 0 := by
  have h0 : (broadcastInDim S_ ![] bcast_S_S_ (constant (F := Ideal) S_ .f32 0x00000000#32)) (Shape.Idx.first h_S_) = (0 : EReal) :=
    Ideal.ofBits_zero_f32
  exact Cert.Loss.host_running rfl x _ _ _ h0 r c

/-- An entry less its column's largest. -/
theorem shifted_read (y : FVec Ideal S16384x32 .f32) (r : Fin 16384) (c : Fin 32) :
    shifted y (ix2 r c) = y (ix2 r c) - Finset.univ.fold max (Ideal.ofBits .f32 0xFF800000#32) fun k : Fin 16384 => y (ix2 k c) := by
  pointwise [shifted]

/-- Turning the rows round reads the mirrored row. -/
theorem reverse_read (x : FVec Ideal S16384x32 .f32) (r : Fin 16384) (c : Fin 32) :
    Host.reverse [0] x (ix2 r c) = x (ix2 r.rev c) := by
  unfold Host.reverse
  refine congrArg x (funext fun a => ?_)
  match a with
  | ⟨0, _⟩ => exact if_pos (List.mem_singleton.mpr rfl)
  | ⟨1, _⟩ => exact if_neg fun h => absurd (congrArg Fin.val (List.mem_singleton.mp h)) Nat.one_ne_zero

/-- The host's logarithm is taken entry by entry. -/
theorem log_read {s : Shape} (x : FVec Ideal s .f32) (i : s.Idx) : Host.log x i = Ideal.log (x i) := rfl

/-- The logarithm of the sum of the exponentials of the last `r + 1` entries. -/
theorem logs_read (y : FVec Ideal S16384x32 .f32) (r : Fin 16384) (c : Fin 32) :
    logs y (ix2 r c) = Ideal.log (∑ k : Fin 16384, if k.val ≤ r.val then Ideal.exp (shifted y (ix2 k.rev c)) else 0) := by
  unfold logs
  rw [log_read, running_read]
  refine congrArg Ideal.log (Finset.sum_congr rfl fun k _ => ?_)
  refine if_congr Iff.rfl ?_ rfl
  exact congrArg Ideal.exp (reverse_read _ k c)

/-- THE LOSS OF WHAT WAS TAKEN, as a formula. -/
theorem loss_read (y : FVec Ideal S16384x32 .f32) (j : S_.Idx) :
    loss y j = Ideal.div (∑ d : Fin 32, -(∑ i : Fin 16384, (shifted y (ix2 i d) - logs y (ix2 i.rev d))))
      (Ideal.ofBits .f32 0x42000000#32) := by
  rw [← ix0_eta j]
  pointwise [loss]
  rfl

end Cert.ReferenceIdeal.Hand

end
-- ==== Proof.Value.lean ====
/- Hand-written, untrusted: THE KERNEL'S LOSS IS THE REFERENCE'S. With real predictions and no two labels of a column equal, the
   kernel's sorted predictions are the reference's taken predictions upside down; both losses are then the same real number. -/
module

public import proofs.«01_k».proof.Proof.KernelRun
public import proofs.«01_k».proof.Proof.KernelValue
public import proofs.«01_k».proof.Proof.Taken

@[expose] public section

set_option maxRecDepth 16384

noncomputable section

namespace Cert.Loss

open Idealize.ShloMosaic

/-- The f32 word of minus infinity. -/
theorem bot_word : Ideal.ofBits .f32 0xFF800000#32 = (⊥ : EReal) := by simp [Ideal.ofBits, Ideal.ieee]

/-- The f32 word of 16384. -/
theorem rows_word : Ideal.ofBits .f32 0x46800000#32 = ((16384 : ℝ) : EReal) := by
  simp [Ideal.ofBits, Ideal.ieee, -EReal.coe_mul]; norm_num

/-- The logarithm of a running sum of exponentials of reals, at least one of them counted, is a real. -/
theorem log_real (x : Fin 16384 → ℝ) (m : ℝ) (r : Fin 16384) :
    ∃ l : ℝ, Ideal.log (∑ i : Fin 16384, if i.val ≤ r.val then Ideal.exp ((x i : EReal) - (m : EReal)) else 0) = (l : EReal) := by
  have h : (∑ i : Fin 16384, if i.val ≤ r.val then Ideal.exp ((x i : EReal) - (m : EReal)) else 0)
      = ((∑ i : Fin 16384, if i.val ≤ r.val then Real.exp (x i - m) else 0 : ℝ) : EReal) := by
    rw [coe_sum]
    refine Finset.sum_congr rfl fun i _ => ?_
    split
    · rw [← EReal.coe_sub, Ideal.exp_coe]
    · rfl
  have hpos : 0 < ∑ i : Fin 16384, if i.val ≤ r.val then Real.exp (x i - m) else 0 :=
    Finset.sum_pos' (fun i _ => by split; exacts [(Real.exp_pos _).le, le_rfl])
      ⟨r, Finset.mem_univ _, by rw [if_pos le_rfl]; exact Real.exp_pos _⟩
  rw [h, Ideal.log_coe, if_neg (not_le.mpr hpos)]
  exact ⟨_, rfl⟩

/-- THE TWO LOSSES AGREE on an array of reals and the same array upside down. -/
theorem losses (v y : FVec Ideal KernelIdeal.S16384x32 .f32) (x : Fin 16384 → Fin 32 → ℝ)
    (hv : ∀ i d, v (ix2 i d) = (x i d : EReal)) (hy : ∀ i d, y (ix2 i d) = (x i.rev d : EReal)) (j : ReferenceIdeal.S_.Idx) :
    ReferenceIdeal.Hand.loss y j = KernelIdeal.Gen.k0_pay1 (F := Ideal) v := by
  have hm : ∀ d : Fin 32, ∃ m : ℝ, Finset.univ.fold max ⊥ (fun k : Fin 16384 => (x k d : EReal)) = m := fun d => max_real fun k => x k d
  choose m hm using hm
  have hmr : ∀ d : Fin 32, Finset.univ.fold max ⊥ (fun k : Fin 16384 => (x k.rev d : EReal)) = m d := fun d =>
    (max_order (fun k => (x k d : EReal)) Fin.rev Fin.rev_bijective).trans (hm d)
  have hl : ∀ (r : Fin 16384) (d : Fin 32), ∃ l : ℝ,
      Ideal.log (∑ i : Fin 16384, if i.val ≤ r.val then Ideal.exp ((x i d : EReal) - (m d : EReal)) else 0) = (l : EReal) := fun r d =>
    log_real (fun i => x i d) (m d) r
  choose l hl using hl
  rw [ReferenceIdeal.Hand.loss_read, KernelIdeal.Hand.stored]
  have hs : ∀ (i : Fin 16384) (d : Fin 32), ReferenceIdeal.Hand.shifted y (ix2 i d) = (x i.rev d : EReal) - (m d : EReal) := fun i d => by
    rw [ReferenceIdeal.Hand.shifted_read, bot_word]
    simp only [hy, hmr]
  have hg : ∀ (i : Fin 16384) (d : Fin 32), ReferenceIdeal.Hand.logs y (ix2 i d) = (l i d : EReal) := fun i d => by
    rw [ReferenceIdeal.Hand.logs_read]
    simp only [hs, Fin.rev_rev]
    exact hl i d
  simp only [hs, hg, bot_word, rows_word, hv, hm]
  refine congrArg (fun t => Ideal.div t (Ideal.ofBits .f32 0x42000000#32)) ?_
  refine (loss_eq x m l).symm.trans ?_
  refine congrArg₂ (· + ·) rfl (Finset.sum_congr rfl fun a _ => Finset.sum_congr rfl fun d _ => Finset.sum_congr rfl fun b _ => ?_)
  exact (hl ⟨a.val * 128 + b.val, by omega⟩ d).symm

/-- THE RESULTS AGREE: with the predictions finite and no two labels of a column equal. -/
theorem results (preds labels : FVec Ideal KernelIdeal.S16384x32 .f32)
    (hp : (Pre_finite_and_untied.fn (F := Ideal) preds labels).1 = fun _ => 1#1)
    (hl : (Pre_finite_and_untied.fn (F := Ideal) preds labels).2 = fun _ => 1#1) (j : ReferenceIdeal.S_.Idx) :
    ReferenceIdeal.Hand.loss (ReferenceIdeal.Hand.taken labels preds) j
      = KernelIdeal.Gen.k0_pay1 (F := Ideal) (KernelIdeal.Hand.sorted labels preds) := by
  have hreal := real_of_pre preds labels hp
  choose p hp' using hreal
  have hinj := injective_of_pre preds labels hl
  refine losses _ _ (fun i d => p (order (fun k => labels (ix2 k d)) i) d) (fun i d => ?_) (fun i d => ?_) j
  · exact (sort2_read (N := 16384) (C := 32) _ kernel_before labels preds i d).trans (hp' _ d)
  · rw [ReferenceIdeal.Hand.taken_read, order_neg (fun k => labels (ix2 k d)) (hinj d)]
    exact hp' _ d

end Cert.Loss

end
-- ==== Proof.lean ====
/- THE CERTIFICATE, assembled. Every program's facts are the generated ones; the kernel's two frames are the generated ones, the
   reference's frame is its generated run with the result dropped; the idealization rewrites nothing, so it preserves by
   definition; and kernel and reference compute the same loss (Proof/Value.lean) on finite predictions and untied labels. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_and_untied
public import proofs.«01_k».proof.Proof.KernelRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's loss and the reference's loss are one extended real, from any two memories that agree on the arguments and whose
    predictions are finite and labels untied. -/
theorem algebraic : algebraic_KernelIdeal_ReferenceIdeal_pre_finite_and_untied (hKernelIdeal := Cert.KernelIdeal.Gen.facts)
    (hReferenceIdeal := Cert.ReferenceIdeal.Gen.facts) (hPre_finite_and_untied := Cert.Pre_finite_and_untied.Gen.facts) :=
  fun m g m' g' hpre hagree => ⟨fun c => fun _ => Cert.KernelIdeal.Hand.value m c, Cert.KernelIdeal.Hand.run m g,
    (θ_run _ _ _).mono (fun r h c => ⟨(h c).1.trans (by
        rw [Cert.ReferenceIdeal.Hand.result, (hagree c).1, (hagree c).2]
        exact funext fun j => Cert.Loss.results _ _ (hpre c).1 (hpre c).2 j), (h c).2⟩)
      (Cert.ReferenceIdeal.Value.run m' g')⟩

/-- Everything that the statement claims. -/
theorem claim : Cert.Claim := ⟨Cert.Kernel.Gen.facts, Cert.KernelIdeal.Gen.facts, Cert.ReferenceIdeal.Gen.facts,
  Cert.Pre_finite_and_untied.Gen.facts,
  fun m g _ => Cert.Kernel.Gen.frame m g,
  fun m g _ => Cert.KernelIdeal.Gen.frame m g,
  fun m g _ => Cert.KernelIdeal.Gen.frame m g,
  fun m g _ => (θ_run _ _ _).mono (fun r h => ⟨fun c => (h c).2, sem_eq_zero_of_no_sems rfl r.2⟩) (Cert.ReferenceIdeal.Value.run m g),
  fun m g _ => (θ_run _ _ _).mono (fun r h => ⟨fun c => (h c).2, sem_eq_zero_of_no_sems rfl r.2⟩) (Cert.ReferenceIdeal.Value.run m g),
  trivial, algebraic⟩

end Cert.Proof

end
